-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x32768 : Shape := ⟨3, ![32, 1, 32768]⟩
abbrev S32x1x64x64 : Shape := ⟨4, ![32, 1, 64, 64]⟩
abbrev S32x32768x512 : Shape := ⟨3, ![32, 32768, 512]⟩
abbrev S32x32768 : Shape := ⟨2, ![32, 32768]⟩
abbrev S32x32768x64 : Shape := ⟨3, ![32, 32768, 64]⟩
abbrev S32x64x512 : Shape := ⟨3, ![32, 64, 512]⟩
abbrev S32x64x64 : Shape := ⟨3, ![32, 64, 64]⟩
abbrev S32x64x32768 : Shape := ⟨3, ![32, 64, 32768]⟩
abbrev S1x64x512 : Shape := ⟨3, ![1, 64, 512]⟩
abbrev S1x64x64 : Shape := ⟨3, ![1, 64, 64]⟩
abbrev S1x8192x512 : Shape := ⟨3, ![1, 8192, 512]⟩
abbrev S8x32768 : Shape := ⟨2, ![8, 32768]⟩
abbrev S1x64x8192 : Shape := ⟨3, ![1, 64, 8192]⟩
abbrev S64x1 : Shape := ⟨2, ![64, 1]⟩
abbrev S64x512 : Shape := ⟨2, ![64, 512]⟩
abbrev S64x64 : Shape := ⟨2, ![64, 64]⟩
abbrev S1x2048x512 : Shape := ⟨3, ![1, 2048, 512]⟩
abbrev S2048x512 : Shape := ⟨2, ![2048, 512]⟩
abbrev S64x2048 : Shape := ⟨2, ![64, 2048]⟩
abbrev S1x64x2048 : Shape := ⟨3, ![1, 64, 2048]⟩
abbrev S1x2048 : Shape := ⟨2, ![1, 2048]⟩
abbrev S64 : Shape := ⟨1, ![64]⟩

abbrev nBuf : Space → Nat
  | .hbm => 10
  | .vmem => 15
  | .smem => 0
  | _ => 0

abbrev bufTy : (tb : Table) → Fin (tcTables nBuf tb) → BufTy
  | .hbm, ⟨0, _⟩ => ⟨S32x1x32768, .bf16⟩
  | .hbm, ⟨1, _⟩ => ⟨S32x1x64x64, .bf16⟩
  | .hbm, ⟨2, _⟩ => ⟨S32x32768x512, .fp8e4m3⟩
  | .hbm, ⟨3, _⟩ => ⟨S32x32768, .f32⟩
  | .hbm, ⟨4, _⟩ => ⟨S32x32768x64, .bf16⟩
  | .hbm, ⟨5, _⟩ => ⟨S32x64x512, .bf16⟩
  | .hbm, ⟨6, _⟩ => ⟨S32x64x64, .bf16⟩
  | .hbm, ⟨7, _⟩ => ⟨S32x64x32768, .bf16⟩
  | .hbm, ⟨8, _⟩ => ⟨S32x64x512, .bf16⟩
  | .hbm, ⟨9, _⟩ => ⟨S32x1x32768, .bf16⟩
  | .local _ .vmem, ⟨0, _⟩ => ⟨S1x64x512, .bf16⟩
  | .local _ .vmem, ⟨1, _⟩ => ⟨S1x64x512, .bf16⟩
  | .local _ .vmem, ⟨2, _⟩ => ⟨S1x64x64, .bf16⟩
  | .local _ .vmem, ⟨3, _⟩ => ⟨S1x64x64, .bf16⟩
  | .local _ .vmem, ⟨4, _⟩ => ⟨S1x8192x512, .fp8e4m3⟩
  | .local _ .vmem, ⟨5, _⟩ => ⟨S1x8192x512, .fp8e4m3⟩
  | .local _ .vmem, ⟨6, _⟩ => ⟨S8x32768, .f32⟩
  | .local _ .vmem, ⟨7, _⟩ => ⟨S8x32768, .f32⟩
  | .local _ .vmem, ⟨8, _⟩ => ⟨S1x64x8192, .bf16⟩
  | .local _ .vmem, ⟨9, _⟩ => ⟨S1x64x8192, .bf16⟩
  | .local _ .vmem, ⟨10, _⟩ => ⟨S1x64x512, .bf16⟩
  | .local _ .vmem, ⟨11, _⟩ => ⟨S1x64x512, .bf16⟩
  | .local _ .vmem, ⟨12, _⟩ => ⟨S64x1, .f32⟩
  | .local _ .vmem, ⟨13, _⟩ => ⟨S64x1, .f32⟩
  | .local _ .vmem, ⟨14, _⟩ => ⟨S64x512, .f32⟩
  | _, _ => ⟨S32x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def k0_off1 (i : grid0.Coords) (c0_i32_19 : BitVec 32) : Fin 2 → Nat :=
  let arg0 : BitVec 32 := BitVec.ofNat 32 (i 0).val
  let c8_i32 : BitVec 32 := 8#32
  let v7 : BitVec 32 := Scalar.remsi arg0 c8_i32
  let v19 : Index := Scalar.indexCast v7
  let arg1 : BitVec 32 := BitVec.ofNat 32 (i 1).val
  let c8192_i32 : BitVec 32 := 8192#32
  let v17 : BitVec 32 := Scalar.muli arg1 c8192_i32
  let v18 : BitVec 32 := Scalar.addi v17 c0_i32_19
  let v20 : Index := Scalar.indexCast v18
  ![v19.toNat, v20.toNat]
def k0_cond2 (i : grid0.Coords) : BitVec 1 :=
  let arg1 : BitVec 32 := BitVec.ofNat 32 (i 1).val
  let c3_i32 : BitVec 32 := 3#32
  let v184 : BitVec 1 := Scalar.cmpi .eq arg1 c3_i32
  let v185 : BitVec 32 := Scalar.extui v184
  let c0_i32_86 : BitVec 32 := 0#32
  let v186 : BitVec 1 := Scalar.cmpi .ne v185 c0_i32_86
  v186

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S32x1x32768 : Shape := ⟨3, ![32, 1, 32768]⟩
abbrev S32x1x64x64 : Shape := ⟨4, ![32, 1, 64, 64]⟩
abbrev S32x32768x512 : Shape := ⟨3, ![32, 32768, 512]⟩
abbrev S32x32768 : Shape := ⟨2, ![32, 32768]⟩
abbrev S32x32768x64 : Shape := ⟨3, ![32, 32768, 64]⟩
abbrev S32x1x64x512 : Shape := ⟨4, ![32, 1, 64, 512]⟩
abbrev S32x1x64x32768 : Shape := ⟨4, ![32, 1, 64, 32768]⟩
abbrev S32x1x1x32768 : Shape := ⟨4, ![32, 1, 1, 32768]⟩
abbrev S_ : Shape := ⟨0, ![]⟩
abbrev S32x1x64 : Shape := ⟨3, ![32, 1, 64]⟩
abbrev S32x1x64x1 : Shape := ⟨4, ![32, 1, 64, 1]⟩

abbrev nBuf : Space → Nat
  | .hbm => 32
  | .vmem => 2
  | .smem => 0
  | _ => 0

abbrev bufTy : (tb : Table) → Fin (tcTables nBuf tb) → BufTy
  | .hbm, ⟨0, _⟩ => ⟨S32x1x32768, .bf16⟩
  | .hbm, ⟨1, _⟩ => ⟨S32x1x64x64, .bf16⟩
  | .hbm, ⟨2, _⟩ => ⟨S32x32768x512, .fp8e4m3⟩
  | .hbm, ⟨3, _⟩ => ⟨S32x32768, .f32⟩
  | .hbm, ⟨4, _⟩ => ⟨S32x32768x64, .bf16⟩
  | .hbm, ⟨5, _⟩ => ⟨S32x1x64x512, .bf16⟩
  | .hbm, ⟨6, _⟩ => ⟨S32x32768x512, .bf16⟩
  | .hbm, ⟨7, _⟩ => ⟨S32x1x64x32768, .f32⟩
  | .hbm, ⟨8, _⟩ => ⟨S32x1x64x32768, .f32⟩
  | .hbm, ⟨9, _⟩ => ⟨S32x1x1x32768, .f32⟩
  | .hbm, ⟨10, _⟩ => ⟨S32x1x64x32768, .f32⟩
  | .hbm, ⟨11, _⟩ => ⟨S32x1x64x32768, .f32⟩
  | .hbm, ⟨12, _⟩ => ⟨S32x1x64x32768, .f32⟩
  | .hbm, ⟨13, _⟩ => ⟨S_, .f32⟩
  | .hbm, ⟨14, _⟩ => ⟨S32x1x64x32768, .f32⟩
  | .hbm, ⟨15, _⟩ => ⟨S32x1x64x32768, .f32⟩
  | .hbm, ⟨16, _⟩ => ⟨S_, .f32⟩
  | .hbm, ⟨17, _⟩ => ⟨S32x1x64, .f32⟩
  | .hbm, ⟨18, _⟩ => ⟨S32x1x64x1, .f32⟩
  | .hbm, ⟨19, _⟩ => ⟨S32x1x64x32768, .f32⟩
  | .hbm, ⟨20, _⟩ => ⟨S32x1x64x32768, .f32⟩
  | .hbm, ⟨21, _⟩ => ⟨S32x1x64x32768, .f32⟩
  | .hbm, ⟨22, _⟩ => ⟨S_, .f32⟩
  | .hbm, ⟨23, _⟩ => ⟨S32x1x64, .f32⟩
  | .hbm, ⟨24, _⟩ => ⟨S32x1x64x32768, .f32⟩
  | .hbm, ⟨25, _⟩ => ⟨S32x1x64x32768, .f32⟩
  | .hbm, ⟨26, _⟩ => ⟨S32x1x64x512, .f32⟩
  | .hbm, ⟨27, _⟩ => ⟨S32x1x64x1, .f32⟩
  | .hbm, ⟨28, _⟩ => ⟨S32x1x64x512, .f32⟩
  | .hbm, ⟨29, _⟩ => ⟨S32x1x64x512, .f32⟩
  | .hbm, ⟨30, _⟩ => ⟨S32x1x32768, .f32⟩
  | .hbm, ⟨31, _⟩ => ⟨S32x1x32768, .bf16⟩
  | .local _ .vmem, ⟨0, _⟩ => ⟨S32x32768x512, .fp8e4m3⟩
  | .local _ .vmem, ⟨1, _⟩ => ⟨S32x32768x512, .bf16⟩
  | _, _ => ⟨S32x1x32768, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32x32768x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32768x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.lean ====
/-
  What one grid point of the kernel computes, as four steps over its four sub-blocks of 2048 tokens.

  The kernel's body repeats one update four times: scores of a sub-block, the new running maximum, the rescaled running
  sum, the rescaled running product with the latent codes. `step` is that update once; `point` is it four times; and the
  theorems say that the carried buffers after a grid point are `point` of what they held before it.
-/
module

public import proofs.«01_k».proof.Proof.Gen.KernelIdeal.Frame
public import Idealize.ShloMosaic.Lib.Pipeline.Value
public import Idealize.ShloMosaic.Lib.Pipeline.ValueKit
public import Idealize.ShloMosaic.Lib.Pipeline.ReadBack
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable {F : FTy → Type} [FloatOps F]
variable (m : (ℓ : Loc nD τ sig) → Buf (Elt F) ℓ) (c : Dev nD) (t : Fin cfg0.N)

/-- What the kernel carries: the running maximum, the running sum of exponentials, the running weighted sum of codes. -/
abbrev Carry (F : FTy → Type) [FloatOps F] := Vec F S64x1 .f32 × Vec F S64x1 .f32 × Vec F S64x512 .f32

theorem codes_inb (r : Fin 4) : ∀ a, (![0, 2048 * r.val, 0] : Fin 3 → ℕ) a + S1x2048x512.size a ≤ S1x8192x512.size a := by
  revert r; decide
theorem ropes_inb (r : Fin 4) : ∀ a, (![0, 0, 2048 * r.val] : Fin 3 → ℕ) a + S1x64x2048.size a ≤ S1x64x8192.size a := by
  revert r; decide

/-- The latent codes of sub-block `r` of point `t`. -/
def codes (r : Fin 4) : Vec F S1x2048x512 .fp8e4m3 :=
  View.ld (iblk m c 2 t) (Rect.unit ![0, 2048 * r.val, 0] S1x2048x512.size (codes_inb r))
/-- The (transposed) rotary keys of sub-block `r` of point `t`. -/
def ropes (r : Fin 4) : Vec F S1x64x2048 .bf16 :=
  View.ld (iblk m c 4 t) (Rect.unit ![0, 0, 2048 * r.val] S1x64x2048.size (ropes_inb r))
/-- The scales of sub-block `r` of point `t`: one row of the eight staged, at the sub-block's tokens. -/
def scales (r : Fin 4) : Vec F S1x2048 .f32 :=
  View.ld (iblk m c 3 t) (Rect.unit (k0_off1 (grid0.coords t) (BitVec.ofNat 32 (2048 * r.val))) S1x2048.size (k0_off1_inb _ r))
/-- The scores of sub-block `r` of point `t`. -/
def scores (r : Fin 4) : FVec F S64x2048 .f32 :=
  k0_pay12 (iblk m c 0 t) (iblk m c 1 t) (codes m c t r) (ropes m c t r) (scales m c t r)

/-- One update of the carry, by sub-block `r` of point `t`. -/
def step (r : Fin 4) (s : Carry F) : Carry F :=
  (k0_pay14 s.1 (scores m c t r), k0_pay17 s.1 s.2.1 (scores m c t r),
    k0_pay18 s.1 s.2.2 (scores m c t r) (scales m c t r) (codes m c t r))
/-- The four updates of point `t`. -/
def point (s : Carry F) : Carry F := step m c t 3 (step m c t 2 (step m c t 1 (step m c t 0 s)))
/-- The carry a row starts from. -/
def start : Carry F := (k0_pay7, k0_pay8, k0_pay9)

/-! The later copies of the update are the first one's, operation for operation. -/

theorem pay13_eq (q : Vec F S1x64x512 .bf16) (qr : Vec F S1x64x64 .bf16) (a b d) :
    k0_pay13 (k0_pay10 q) (k0_pay11 qr) a b d = k0_pay12 q qr a b d := rfl
theorem pay19_eq (q : Vec F S1x64x512 .bf16) (qr : Vec F S1x64x64 .bf16) (a b d) :
    k0_pay19 (k0_pay10 q) (k0_pay11 qr) a b d = k0_pay12 q qr a b d := rfl
theorem pay25_eq (q : Vec F S1x64x512 .bf16) (qr : Vec F S1x64x64 .bf16) (a b d) :
    k0_pay25 (k0_pay10 q) (k0_pay11 qr) a b d = k0_pay12 q qr a b d := rfl
theorem pay20_eq (S : FVec F S64x2048 .f32) (M) : k0_pay20 S M = k0_pay14 M S := rfl
theorem pay26_eq (S : FVec F S64x2048 .f32) (M) : k0_pay26 S M = k0_pay14 M S := rfl
theorem pay31_eq (q : Vec F S1x64x512 .bf16) (qr : Vec F S1x64x64 .bf16) (S : FVec F S64x2048 .f32) (M a b d) :
    k0_pay31 (k0_pay10 q) (k0_pay11 qr) S M a b d = k0_pay14 (k0_pay14 M S) (k0_pay12 q qr a b d) := rfl
theorem pay23_eq (S : FVec F S64x2048 .f32) (M L) : k0_pay23 S M L = k0_pay17 M L S := rfl
theorem pay29_eq (S : FVec F S64x2048 .f32) (M L) : k0_pay29 S M L = k0_pay17 M L S := rfl
theorem pay24_eq (S : FVec F S64x2048 .f32) (M A a d) : k0_pay24 S M A a d = k0_pay18 M A S a d := rfl
theorem pay30_eq (S : FVec F S64x2048 .f32) (M A a d) : k0_pay30 S M A a d = k0_pay18 M A S a d := rfl
theorem pay3_eq (M : FVec F S64x1 .f32) : k0_pay3 M = M := by unfold k0_pay3; simp only [shapeCast_self]
theorem pay4_eq (S : FVec F S64x2048 .f32) (M L) : k0_pay4 S M L (k0_pay14 M S) = k0_pay17 M L S := by
  unfold k0_pay4; simp only [shapeCast_self]; rfl
theorem pay5_eq (S : FVec F S64x2048 .f32) (M A a d) : k0_pay5 S M A (k0_pay14 M S) a d = k0_pay18 M A S a d := by
  unfold k0_pay5; simp only [shapeCast_self]; rfl

/-- At a point that starts a row the carry ends at `point` of the starting carry. -/
theorem carry_first (h0 : t.val % 4 = 0) : (outsAt0 m c t.val t.isLt).2 = point m c t start := by
  have h1 : ¬t.val % 4 = 3 := by omega
  refine Prod.ext ?_ (Prod.ext ?_ ?_)
  all_goals
    rw [outsAt0_A m c t h0 h1]
    frame_out
    try simp only [read_unread_whole]
    simp only [pay13_eq, pay19_eq, pay25_eq, pay20_eq, pay26_eq, pay31_eq, pay23_eq, pay29_eq, pay24_eq, pay30_eq, pay3_eq,
      pay4_eq, pay5_eq]
    rfl

/-- At any other point the carry ends at `point` of what the point before left. -/
theorem carry_next (h0 : ¬t.val % 4 = 0) : (outsAt0 m c t.val t.isLt).2
    = point m c t (outsAt0 m c (t.val - 1) (Nat.lt_of_le_of_lt (Nat.sub_le _ _) t.isLt)).2 := by
  by_cases h1 : t.val % 4 = 3
  all_goals refine Prod.ext ?_ (Prod.ext ?_ ?_)
  all_goals
    first | rw [outsAt0_B m c t h0 h1] | rw [outsAt0_C m c t h0 h1]
    frame_out
    try simp only [read_unread_whole]
    simp only [pay13_eq, pay19_eq, pay25_eq, pay20_eq, pay26_eq, pay31_eq, pay23_eq, pay29_eq, pay24_eq, pay30_eq, pay3_eq,
      pay4_eq, pay5_eq]
    rfl

/-- At the last point of a row the output block is the carried weighted sum over the carried sum, of the carry that
    point leaves. -/
theorem out_last (h1 : t.val % 4 = 3) : (outsAt0 m c t.val t.isLt).1
    = k0_pay6 (outsAt0 m c t.val t.isLt).2.2.2 (outsAt0 m c t.val t.isLt).2.2.1 := by
  have h0 : ¬t.val % 4 = 0 := by omega
  rw [carry_next m c t h0, outsAt0_C m c t h0 h1]
  frame_out
  simp only [read_unread_whole]
  simp only [pay13_eq, pay19_eq, pay25_eq, pay20_eq, pay26_eq, pay31_eq, pay23_eq, pay29_eq, pay24_eq, pay30_eq, pay3_eq,
    pay4_eq, pay5_eq]
  rfl

end Cert.KernelIdeal.Value
-- ==== Proof.Softmax.lean ====
/-
  Softmax-weighted sums over the extended reals, and the one-pass rescaling that computes them block by block.
  Nothing here mentions a program.
-/
module

public import Idealize.ShloMosaic.PureOps.Ideal
public import Mathlib.Data.EReal.Operations

@[expose] public section

noncomputable section

open Idealize.ShloMosaic

namespace Softmax

/-- The largest of the first `n` scores (`-∞` of none). -/
def top (s : ℕ → EReal) (n : ℕ) : EReal := (Finset.range n).sup s

/-- The sum over the first `n` positions of `exp (score - largest score) * weight`. -/
def mass (s w : ℕ → EReal) (n : ℕ) : EReal := ∑ k ∈ Finset.range n, Ideal.exp (s k - top s n) * w k

theorem top_zero (s : ℕ → EReal) : top s 0 = ⊥ := by simp [top]

theorem mass_zero (s w : ℕ → EReal) : mass s w 0 = 0 := by simp [mass]

/-- Every score among the first `n` is at most their largest. -/
theorem le_top (s : ℕ → EReal) {k n : ℕ} (h : k < n) : s k ≤ top s n :=
  Finset.le_sup (f := s) (Finset.mem_range.mpr h)

/-- The largest of `n + b` scores is the larger of the first `n`'s and the next `b`'s. -/
theorem top_add (s : ℕ → EReal) (n b : ℕ) (g : Fin b → EReal) (hg : ∀ i : Fin b, g i = s (n + i)) :
    max (top s n) (Finset.univ.fold max ⊥ g) = top s (n + b) := by
  have h1 : Finset.univ.fold max ⊥ g = Finset.univ.sup g := rfl
  rw [h1]
  apply le_antisymm
  · refine max_le (Finset.sup_mono (Finset.range_mono (Nat.le_add_right n b))) (Finset.sup_le fun i _ => ?_)
    rw [hg i]
    exact le_top s (Nat.add_lt_add_left i.isLt n)
  · refine Finset.sup_le fun k hk => ?_
    rw [Finset.mem_range] at hk
    by_cases h : k < n
    · exact (le_top s h).trans (le_max_left _ _)
    · have hkb : k - n < b := by omega
      have h2 := Finset.le_sup (f := g) (Finset.mem_univ (⟨k - n, hkb⟩ : Fin b))
      rw [hg] at h2
      have h3 : n + (k - n) = k := by omega
      simp only [h3] at h2
      exact h2.trans (le_max_right _ _)

/-- Rescaling one term from an old maximum `a` to a newer one `b`: no finiteness is needed. -/
theorem rescale {x a b : EReal} (w : EReal) (hx : x ≤ a) (hab : a ≤ b) :
    (Ideal.exp (x - a) * w) * Ideal.exp (a - b) = Ideal.exp (x - b) * w := by
  have hbot : ∀ y : EReal, Ideal.exp (⊥ - y) = 0 := fun y => by
    rw [sub_eq_add_neg, EReal.bot_add]; rfl
  have htop : ∀ y : EReal, Ideal.exp (y - ⊤) = 0 := fun y => by
    rw [sub_eq_add_neg, EReal.neg_top, EReal.add_bot]; rfl
  induction b with
  | top => rw [htop, htop, mul_zero, zero_mul]
  | bot =>
    obtain rfl := le_bot_iff.mp hab
    obtain rfl := le_bot_iff.mp hx
    rw [hbot, mul_zero, zero_mul]
  | coe b =>
    induction a with
    | top => exact absurd (top_le_iff.mp hab) (EReal.coe_ne_top b)
    | bot =>
      obtain rfl := le_bot_iff.mp hx
      rw [hbot, hbot, mul_zero, zero_mul]
    | coe a =>
      induction x with
      | top => exact absurd (top_le_iff.mp hx) (EReal.coe_ne_top a)
      | bot => rw [hbot, hbot, zero_mul, zero_mul]
      | coe x =>
        rw [← EReal.coe_sub, ← EReal.coe_sub, ← EReal.coe_sub, mul_right_comm]
        show (Real.exp (x - a) : EReal) * (Real.exp (a - b) : EReal) * w = (Real.exp (x - b) : EReal) * w
        rw [← EReal.coe_mul, ← Real.exp_add]
        congr 3
        ring

/-- `exp` of a difference `a - b` with `a ≤ b` is a nonnegative real. -/
theorem exp_sub_coe {a b : EReal} (hab : a ≤ b) : ∃ r : ℝ, 0 ≤ r ∧ Ideal.exp (a - b) = (r : EReal) := by
  induction b with
  | top => exact ⟨0, le_rfl, by rw [sub_eq_add_neg, EReal.neg_top, EReal.add_bot]; rfl⟩
  | bot =>
    obtain rfl := le_bot_iff.mp hab
    exact ⟨0, le_rfl, by rw [sub_eq_add_neg, EReal.bot_add]; rfl⟩
  | coe b =>
    induction a with
    | top => exact absurd (top_le_iff.mp hab) (EReal.coe_ne_top b)
    | bot => exact ⟨0, le_rfl, by rw [sub_eq_add_neg, EReal.bot_add]; rfl⟩
    | coe a => exact ⟨Real.exp (a - b), (Real.exp_pos _).le, by rw [← EReal.coe_sub]; rfl⟩

/-- A nonnegative real factor distributes over a finite sum of extended reals. -/
theorem sum_mul_coe {ι : Type*} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih,
      EReal.right_distrib_of_nonneg_of_ne_top (EReal.coe_nonneg.mpr hr) (EReal.coe_ne_top r)]

/-- ONE STEP of the one-pass form: the mass of the first `n` positions, rescaled to the new maximum, plus the terms of the
    next `b` positions at that maximum, is the mass of the first `n + b` positions. -/
theorem mass_add (s w : ℕ → EReal) (n b : ℕ) (g : Fin b → EReal)
    (hg : ∀ i : Fin b, g i = Ideal.exp (s (n + i) - top s (n + b)) * w (n + i)) :
    mass s w n * Ideal.exp (top s n - top s (n + b)) + ∑ i : Fin b, g i = mass s w (n + b) := by
  have hle : top s n ≤ top s (n + b) := Finset.sup_mono (Finset.range_mono (Nat.le_add_right n b))
  have h1 : mass s w n * Ideal.exp (top s n - top s (n + b))
      = ∑ k ∈ Finset.range n, Ideal.exp (s k - top s (n + b)) * w k := by
    obtain ⟨r, hr, he⟩ := exp_sub_coe hle
    unfold mass
    rw [he, sum_mul_coe _ _ hr, ← he]
    exact Finset.sum_congr rfl fun k hk => rescale (w k) (le_top s (Finset.mem_range.mp hk)) hle
  rw [h1, mass, Finset.sum_range_add, Finset.sum_range fun i => Ideal.exp (s (n + i) - top s (n + b)) * w (n + i)]
  exact congrArg _ (Finset.sum_congr rfl fun i _ => hg i)

/-- The whole row at once: the largest of `n` scores given as a family over `Fin n`. -/
theorem top_eq (s : ℕ → EReal) (n : ℕ) (g : Fin n → EReal) (hg : ∀ i : Fin n, g i = s i) :
    Finset.univ.fold max ⊥ g = top s n := by
  have h := top_add s 0 n g fun i => by rw [hg i, Nat.zero_add]
  rwa [top_zero, max_eq_right bot_le, Nat.zero_add] at h

/-- The whole row at once: the mass of `n` positions as a sum over `Fin n`. -/
theorem mass_eq (s w : ℕ → EReal) (n : ℕ) (g : Fin n → EReal)
    (hg : ∀ i : Fin n, g i = Ideal.exp (s i - top s n) * w i) : ∑ i : Fin n, g i = mass s w n := by
  rw [mass, Finset.sum_range fun k => Ideal.exp (s k - top s n) * w k]
  exact Finset.sum_congr rfl fun i _ => hg i

end Softmax

end
-- ==== Proof.Attention.lean ====
/-
  Decode attention over a scaled latent cache, as one formula over the extended reals. Nothing here mentions a program:
  the kernel and the reference are each shown to compute `Attention.attend` of their arguments.
-/
module

public import proofs.«01_k».proof.Proof.Softmax

@[expose] public section

noncomputable section

open Idealize.ShloMosaic

namespace Attention

/-- The five inputs at their natural coordinates. -/
structure Inputs where
  /-- The query against the latent cache: batch row, head, latent column. -/
  query : Fin 32 → Fin 64 → Fin 512 → EReal
  /-- The query against the rotary keys: batch row, head, feature. -/
  queryRope : Fin 32 → Fin 64 → Fin 64 → EReal
  /-- The latent cache's codes: batch row, token, latent column. -/
  code : Fin 32 → Fin 32768 → Fin 512 → EReal
  /-- The latent cache's scales: batch row, token. -/
  scale : Fin 32 → Fin 32768 → EReal
  /-- The rotary keys: batch row, token, feature. -/
  keyRope : Fin 32 → Fin 32768 → Fin 64 → EReal

/-- Column `d` of head `h` in a flat row of 64 heads by 512 columns. -/
def lane (h : Fin 64) (d : Fin 512) : Fin 32768 := ⟨512 * h.val + d.val, by omega⟩

/-- A position in the cache. -/
def pos (k : ℕ) : Fin 32768 := Fin.ofNat 32768 k

theorem pos_val (k : Fin 32768) : pos k.val = k := Fin.ofNat_val_eq_self k
theorem pos_eq {k : ℕ} (h : k < 32768) : pos k = ⟨k, h⟩ := Fin.ext (Nat.mod_eq_of_lt h)

/-- The single-precision pattern a maximum starts from denotes `-∞`. -/
theorem neg_inf : Ideal.ofBits .f32 0xFF800000#32 = (⊥ : EReal) := by
  simp [Ideal.ofBits, Ideal.ieee]

/-- Every column of the flat row is some head's column. -/
theorem lane_surj (k : Fin 32768) : ∃ h d, k = lane h d :=
  ⟨⟨k.val / 512, by omega⟩, ⟨k.val % 512, by omega⟩, Fin.ext (by show k.val = 512 * (k.val / 512) + k.val % 512; omega)⟩

variable (I : Inputs) (b : Fin 32) (h : Fin 64)

/-- The score of token `k` for head `h` of row `b`: the scaled latent product plus the rotary product, times the
    softmax scale (the single-precision value nearest 192 to the power minus one half). -/
def score (k : ℕ) : EReal :=
  ((∑ d, I.query b h d * I.code b (pos k) d) * I.scale b (pos k) + ∑ r, I.queryRope b h r * I.keyRope b (pos k) r)
    * Ideal.ofBits .f32 0x3D93CD3A#32

/-- The value a token contributes to output column `d`: its scale times its code. -/
def value (d : Fin 512) (k : ℕ) : EReal := I.scale b (pos k) * I.code b (pos k) d

/-- Softmax attention over all 32768 tokens: the weighted sum of the values over the sum of the weights. -/
def attend (d : Fin 512) : EReal :=
  Ideal.div (Softmax.mass (score I b h) (value I b d) 32768) (Softmax.mass (score I b h) (fun _ => 1) 32768)

end Attention

end
-- ==== Proof.Blocks.lean ====
/-
  What one grid point reads, element by element: each staged block, and each sub-block of it, as entries of the five
  argument arrays.
-/
module

public import proofs.«01_k».proof.Proof.Body
public import proofs.«01_k».proof.Proof.Attention
public import Idealize.ShloMosaic.Lib.Pointwise
public import Idealize.ShloMosaic.Lib.Claim
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Attention (lane)

variable (m : (ℓ : Loc nD τ sig) → Buf (Elt Ideal) ℓ) (c : Dev nD) (t : Fin cfg0.N)

theorem t_lt : t.val < 128 := by have h := t.isLt; have e : cfg0.N = 128 := N_0; omega

/-- The batch row of a grid point: four points to a row. -/
def row : Fin 32 := ⟨t.val / 4, by have := t_lt t; omega⟩
/-- Token `i` of sub-block `r` of a grid point, as a position in the row. -/
def token (r : Fin 4) (i : Fin 2048) : Fin 32768 := ⟨8192 * (t.val % 4) + 2048 * r.val + i.val, by omega⟩

/-- Where each window's block sits at each grid point. -/
theorem idx : ∀ t : Fin cfg0.N, win0_0.index t = ![t.val / 4, 0, 0] ∧ win0_1.index t = ![t.val / 4, 0, 0]
    ∧ win0_2.index t = ![t.val / 4, t.val % 4, 0] ∧ win0_3.index t = ![t.val / 32, 0]
    ∧ win0_4.index t = ![t.val / 4, 0, t.val % 4] ∧ win0_5.index t = ![t.val / 4, 0, 0] :=
  (by decide +kernel : ∀ t : Fin grid0.N, win0_0.index t = ![t.val / 4, 0, 0] ∧ win0_1.index t = ![t.val / 4, 0, 0]
    ∧ win0_2.index t = ![t.val / 4, t.val % 4, 0] ∧ win0_3.index t = ![t.val / 32, 0]
    ∧ win0_4.index t = ![t.val / 4, 0, t.val % 4] ∧ win0_5.index t = ![t.val / 4, 0, 0])

/-- The grid's two coordinates at point `t`. -/
theorem coords_val : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The query as the grid finds it: the argument, reshaped. -/
theorem entry0 : V m c main_v0 = shapeCast S32x64x512 (m ((c.tc : Thread nD τ).loc main_arg0)) shapeCasts_S32x1x32768_S32x64x512 := by
  show StableHlo.after hostOps0 _ _ = _
  after_results
  rfl
/-- The rotary query as the grid finds it: the argument, reshaped. -/
theorem entry1 : V m c main_v1 = shapeCast S32x64x64 (m ((c.tc : Thread nD τ).loc main_arg1)) shapeCasts_S32x1x64x64_S32x64x64 := by
  show StableHlo.after hostOps0 _ _ = _
  after_results
  rfl
/-- The rotary keys as the grid finds them: the argument, its last two axes exchanged. -/
theorem entry2 : V m c main_v2
    = transpose S32x64x32768 [0, 2, 1] (m ((c.tc : Thread nD τ).loc main_arg4)) transposes_S32x32768x64_S32x64x32768_0_2_1 := by
  show StableHlo.after hostOps0 _ _ = _
  after_results

/-- Splitting the flat query axis into heads and columns. -/
theorem split_query {α : Type} (x : S32x1x32768.Idx → α) (b : Fin 32) (h : Fin 64) (d : Fin 512) :
    shapeCast S32x64x512 x shapeCasts_S32x1x32768_S32x64x512 (ix3 b h d) = x (ix3 b 0 (lane h d)) := by
  refine shapeCast_apply _ _ _ _ ?_
  rw [Shape.rowMajor_val_three, Shape.rowMajor_val_three]
  show (b.val * 1 + 0) * 32768 + (512 * h.val + d.val) = (b.val * 64 + h.val) * 512 + d.val
  omega
/-- Dropping the rotary query's unit axis. -/
theorem drop_unit {α : Type} (x : S32x1x64x64.Idx → α) (b : Fin 32) (h : Fin 64) (d : Fin 64) :
    shapeCast S32x64x64 x shapeCasts_S32x1x64x64_S32x64x64 (ix3 b h d) = x (ix4 b 0 h d) := by
  refine shapeCast_apply _ _ _ _ ?_
  rw [Shape.rowMajor_val_four, Shape.rowMajor_val_three]
  show ((b.val * 1 + 0) * 64 + h.val) * 64 + d.val = (b.val * 64 + h.val) * 64 + d.val
  omega

/-- The same three, at an index. -/
theorem entry_query (b : Fin 32) (h : Fin 64) (d : Fin 512) :
    V m c main_v0 (ix3 b h d) = m ((c.tc : Thread nD τ).loc main_arg0) (ix3 b 0 (lane h d)) := by
  rw [entry0]
  exact split_query _ b h d
theorem entry_query_rope (b : Fin 32) (h : Fin 64) (d : Fin 64) :
    V m c main_v1 (ix3 b h d) = m ((c.tc : Thread nD τ).loc main_arg1) (ix4 b 0 h d) := by
  rw [entry1]
  exact drop_unit _ b h d
theorem entry_ropes (b : Fin 32) (d : Fin 64) (k : Fin 32768) :
    V m c main_v2 (ix3 b d k) = m ((c.tc : Thread nD τ).loc main_arg4) (ix3 b k d) := by
  rw [entry2]
  pointwise

/-- The query block: row `row t` of the flat query, head by head. -/
theorem query_apply (h : Fin 64) (d : Fin 512) :
    iblk m c 0 t (ix3 0 h d) = m ((c.tc : Thread nD τ).loc main_arg0) (ix3 (row t) 0 (lane h d)) := by
  refine Eq.trans ?_ (entry_query m c (row t) h d)
  unfold row
  blk_ext [iblk, idx t]

/-- The rotary query block. -/
theorem query_rope_apply (h : Fin 64) (d : Fin 64) :
    iblk m c 1 t (ix3 0 h d) = m ((c.tc : Thread nD τ).loc main_arg1) (ix4 (row t) 0 h d) := by
  refine Eq.trans ?_ (entry_query_rope m c (row t) h d)
  unfold row
  blk_ext [iblk, idx t]

/-- The latent codes of sub-block `r`. -/
theorem codes_apply (r : Fin 4) (i : Fin 2048) (d : Fin 512) :
    codes m c t r (ix3 0 i d) = m ((c.tc : Thread nD τ).loc main_arg2) (ix3 (row t) (token t r i) d) := by
  unfold row token codes
  pointwise
  blk_ext! [iblk, V, idx t]

/-- The scales of sub-block `r`. -/
theorem scales_apply (r : Fin 4) (i : Fin 2048) :
    scales m c t r (ix2 0 i) = m ((c.tc : Thread nD τ).loc main_arg3) (ix2 (row t) (token t r i)) := by
  unfold row token scales
  pointwise [k0_off1_eq, coords_val t]
  blk_ext! [iblk, V, idx t]

/-- The rotary keys of sub-block `r`, transposed: feature first, token second. -/
theorem ropes_apply (r : Fin 4) (d : Fin 64) (i : Fin 2048) :
    ropes m c t r (ix3 0 d i) = m ((c.tc : Thread nD τ).loc main_arg4) (ix3 (row t) (token t r i) d) := by
  refine Eq.trans ?_ (entry_ropes m c (row t) d (token t r i))
  unfold row token ropes
  pointwise
  blk_ext [iblk, idx t]

end Cert.KernelIdeal.Value
-- ==== Proof.Carry.lean ====
/-
  What the kernel carries from one grid point to the next: after the first `n` tokens of a row, the running maximum is
  the largest of their scores, the running sum is the sum of their weights, and the running product is the weighted sum
  of their values.
-/
module

public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Attention (lane)

/-- The idealized kernel's arguments at their natural coordinates. -/
def inputs (m : (ℓ : Loc nD τ sig) → Buf (Elt Ideal) ℓ) (c : Dev nD) : Attention.Inputs where
  query b h d := m ((c.tc : Thread nD τ).loc main_arg0) (ix3 b 0 (lane h d))
  queryRope b h r := m ((c.tc : Thread nD τ).loc main_arg1) (ix4 b 0 h r)
  code b k d := m ((c.tc : Thread nD τ).loc main_arg2) (ix3 b k d)
  scale b k := m ((c.tc : Thread nD τ).loc main_arg3) (ix2 b k)
  keyRope b k r := m ((c.tc : Thread nD τ).loc main_arg4) (ix3 b k r)

variable (m : (ℓ : Loc nD τ sig) → Buf (Elt Ideal) ℓ) (c : Dev nD) (t : Fin cfg0.N)

/-- The carry `s` accounts for the first `n` tokens of row `b`. -/
structure Holds (b : Fin 32) (n : ℕ) (s : Carry Ideal) : Prop where
  top : ∀ h, s.1 (ix2 h 0) = Softmax.top (Attention.score (inputs m c) b h) n
  sum : ∀ h, s.2.1 (ix2 h 0) = Softmax.mass (Attention.score (inputs m c) b h) (fun _ => 1) n
  acc : ∀ h d, s.2.2 (ix2 h d)
    = Softmax.mass (Attention.score (inputs m c) b h) (Attention.value (inputs m c) b d) n

/-- The starting carry accounts for no tokens. -/
theorem holds_start (b : Fin 32) : Holds m c b 0 start where
  top h := by
    rw [Softmax.top_zero, ← Attention.neg_inf]
    show k0_pay7 (ix2 h 0) = _
    pointwise [k0_pay7]
  sum h := by
    rw [Softmax.mass_zero]
    show k0_pay8 (ix2 h 0) = _
    pointwise [k0_pay8]
  acc h d := by
    rw [Softmax.mass_zero]
    show k0_pay9 (ix2 h d) = _
    pointwise [k0_pay9]

/-- How many tokens of its row precede sub-block `r` of point `t`. -/
abbrev before (r : Fin 4) : ℕ := 8192 * (t.val % 4) + 2048 * r.val

theorem pos_token (r : Fin 4) (i : Fin 2048) : Attention.pos (before t r + i.val) = token t r i :=
  Attention.pos_eq _

/-- The score payload at an index. -/
theorem pay12_apply (q : Vec Ideal S1x64x512 .bf16) (qr : Vec Ideal S1x64x64 .bf16) (a : Vec Ideal S1x2048x512 .fp8e4m3)
    (k : Vec Ideal S1x64x2048 .bf16) (s : Vec Ideal S1x2048 .f32) (h : Fin 64) (i : Fin 2048) :
    k0_pay12 q qr a k s (ix2 h i) = ((∑ x : Fin 512, q (ix3 0 h x) * a (ix3 0 i x)) * s (ix2 0 i)
      + ∑ x : Fin 64, qr (ix3 0 h x) * k (ix3 0 x i)) * Ideal.ofBits .f32 0x3D93CD3A#32 := by
  pointwise [k0_pay12, k0_pay10, k0_pay11]

/-- A sub-block's computed scores are the attention scores of its tokens. -/
theorem scores_apply (r : Fin 4) (h : Fin 64) (i : Fin 2048) :
    scores m c t r (ix2 h i) = Attention.score (inputs m c) (row t) h (before t r + i.val) := by
  refine Eq.trans (pay12_apply _ _ _ _ _ h i) ?_
  simp only [query_apply, codes_apply, scales_apply, query_rope_apply, ropes_apply]
  unfold Attention.score
  rw [pos_token]
  rfl

/-- One update carries the account over the sub-block's 2048 tokens. -/
theorem holds_step (r : Fin 4) (s : Carry Ideal) (hs : Holds m c (row t) (before t r) s) :
    Holds m c (row t) (before t r + 2048) (step m c t r s) := by
  have htop : ∀ h, k0_pay14 s.1 (scores m c t r) (ix2 h 0)
      = Softmax.top (Attention.score (inputs m c) (row t) h) (before t r + 2048) := by
    intro h
    have e : k0_pay14 s.1 (scores m c t r) (ix2 h 0)
        = max (s.1 (ix2 h 0)) (Finset.univ.fold max (Ideal.ofBits .f32 0xFF800000#32)
            fun x => scores m c t r (ix2 h x)) := by
      pointwise [k0_pay14]
    rw [e, hs.top, Attention.neg_inf]
    exact Softmax.top_add _ _ _ _ fun i => scores_apply m c t r h i
  refine ⟨htop, fun h => ?_, fun h d => ?_⟩
  · have e : k0_pay17 s.1 s.2.1 (scores m c t r) (ix2 h 0)
        = s.2.1 (ix2 h 0) * Ideal.exp (s.1 (ix2 h 0) - k0_pay14 s.1 (scores m c t r) (ix2 h 0))
          + ∑ x, Ideal.exp (scores m c t r (ix2 h x) - k0_pay14 s.1 (scores m c t r) (ix2 h 0)) := by
      pointwise [k0_pay17, k0_pay16, k0_pay15]
    refine Eq.trans e ?_
    rw [htop, hs.top, hs.sum]
    exact Softmax.mass_add _ _ _ _ _ fun i => by rw [scores_apply, mul_one]
  · have e : k0_pay18 s.1 s.2.2 (scores m c t r) (scales m c t r) (codes m c t r) (ix2 h d)
        = s.2.2 (ix2 h d) * Ideal.exp (s.1 (ix2 h 0) - k0_pay14 s.1 (scores m c t r) (ix2 h 0))
          + ∑ x, Ideal.exp (scores m c t r (ix2 h x) - k0_pay14 s.1 (scores m c t r) (ix2 h 0))
              * scales m c t r (ix2 0 x) * codes m c t r (ix3 0 x d) := by
      pointwise [k0_pay18, k0_pay16, k0_pay15]
    refine Eq.trans e ?_
    rw [htop, hs.top, hs.acc]
    refine Softmax.mass_add _ _ _ _ _ fun i => ?_
    rw [scores_apply, scales_apply, codes_apply, mul_assoc]
    unfold Attention.value
    rw [pos_token]
    rfl

/-- One grid point carries the account over its 8192 tokens. -/
theorem holds_point (s : Carry Ideal) (hs : Holds m c (row t) (8192 * (t.val % 4)) s) :
    Holds m c (row t) (8192 * (t.val % 4) + 8192) (point m c t s) :=
  holds_step m c t 3 _ (holds_step m c t 2 _ (holds_step m c t 1 _ (holds_step m c t 0 s hs)))

/-- After every grid point the carry accounts for the tokens of its row up to and including that point's. -/
theorem holds_after (n : ℕ) : ∀ hn : n < cfg0.N,
    Holds m c (row ⟨n, hn⟩) (8192 * (n % 4) + 8192) (outsAt0 m c n hn).2 := by
  induction n with
  | zero =>
    intro hn
    rw [carry_first m c ⟨0, hn⟩ rfl]
    exact holds_point m c ⟨0, hn⟩ _ (holds_start m c _)
  | succ n ih =>
    intro hn
    by_cases h0 : (n + 1) % 4 = 0
    · rw [carry_first m c ⟨n + 1, hn⟩ h0]
      refine holds_point m c ⟨n + 1, hn⟩ _ ?_
      show Holds m c _ (8192 * ((n + 1) % 4)) _
      rw [h0]
      exact holds_start m c _
    · rw [carry_next m c ⟨n + 1, hn⟩ h0]
      refine holds_point m c ⟨n + 1, hn⟩ _ ?_
      have hn' : n < cfg0.N := Nat.lt_of_succ_lt hn
      have hrow : row ⟨n, hn'⟩ = row ⟨n + 1, hn⟩ := Fin.ext (by show n / 4 = (n + 1) / 4; omega)
      have hcount : 8192 * (n % 4) + 8192 = 8192 * ((n + 1) % 4) := by omega
      have h := ih hn'
      rw [hrow, hcount] at h
      exact h

/-- What the last grid point of a row leaves in its output block: the row's attention. -/
theorem out_apply (h3 : t.val % 4 = 3) (h : Fin 64) (d : Fin 512) :
    (outsAt0 m c t.val t.isLt).1 (ix3 0 h d) = Attention.attend (inputs m c) (row t) h d := by
  have hs := holds_after m c t.val t.isLt
  rw [h3] at hs
  have e : k0_pay6 (outsAt0 m c t.val t.isLt).2.2.2 (outsAt0 m c t.val t.isLt).2.2.1 (ix3 0 h d)
      = Ideal.div ((outsAt0 m c t.val t.isLt).2.2.2 (ix2 h d)) ((outsAt0 m c t.val t.isLt).2.2.1 (ix2 h 0)) := by
    pointwise [k0_pay6]
  rw [out_last m c t h3, e, hs.sum, hs.acc]
  rfl

end Cert.KernelIdeal.Value
-- ==== Proof.Array.lean ====
/-
  What the kernel's output array holds after the whole grid has run.
-/
module

public import proofs.«01_k».proof.Proof.Carry

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen
open Attention (lane)

variable (m : (ℓ : Loc nD τ sig) → Buf (Elt Ideal) ℓ) (c : Dev nD)

/-- Attention of the kernel's arguments, by batch row, head and column. -/
def result : Vec Ideal S32x64x512 .bf16 := fun i => Attention.attend (inputs m c) (i 0) (i 1) (i 2)

/-- The output array ends holding the attention of every row, head and column. -/
theorem final : (dats m 0 c).arrAt 5 cfg0.N = result m c := by
  refine (dats m 0 c).arrAt_eq_of_covers 5 _ (by decide +kernel) fun t hf y => ?_
  have h3 := (flush0_5 t).mp hf
  blk_simp
  rw [after0_5]
  idx_vars y
  obtain rfl : y0 = 0 := Subsingleton.elim _ _
  refine (out_apply m c t h3 y1 y2).trans ?_
  have e : ((View.whole main_v3).slice (win0_5.rect t)).emb (ix3 0 y1 y2) = ix3 (row t) y1 y2 := by
    unfold row
    blk_ext [idx t]
  rw [e]
  rfl

/-- Joining the heads' columns into one flat row. -/
theorem join_heads {α : Type} (x : S32x64x512.Idx → α) (b : Fin 32) (h : Fin 64) (d : Fin 512) :
    shapeCast S32x1x32768 x shapeCasts_S32x64x512_S32x1x32768 (ix3 b 0 (lane h d)) = x (ix3 b h d) := by
  refine shapeCast_apply _ _ _ _ ?_
  rw [Shape.rowMajor_val_three, Shape.rowMajor_val_three]
  show (b.val * 64 + h.val) * 512 + d.val = (b.val * 1 + 0) * 32768 + (512 * h.val + d.val)
  omega

/-- After the grid, the output array's buffer holds the attention. -/
theorem exit_array : (Pipeline.withArrays (cfgs 0).spec c (V0 m c) (fun w => (dats m 0 c).arrAt w (cfgs 0).N)
    (Proc.tc.devRef main_v3)) = result m c :=
  (Pipeline.withArrays_arr spec0 launch0.win.arr_inj c (V0 m c) (fun w => (dats m 0 c).arrAt w cfg0.N) 5).trans (final m c)

/-- The returned array is the output array, reshaped. -/
theorem returned : Pipeline.afterTail₀ cfgs (dats m) 0 (V0 m) [hostOps1] c main_v4
    = shapeCast S32x1x32768 (result m c) shapeCasts_S32x64x512_S32x1x32768 := by
  unfold Pipeline.afterTail₀
  show StableHlo.after hostOps1 _ _ = _
  after_results
  rw [exit_array]
  rfl

/-- The returned array at head `h`'s column `d` of row `b` is the attention there. -/
theorem returned_apply (b : Fin 32) (h : Fin 64) (d : Fin 512) :
    (Pipeline.afterTail₀ cfgs (dats m) 0 (V0 m) [hostOps1] c main_v4 : Vec Ideal S32x1x32768 .bf16) (ix3 b 0 (lane h d))
      = Attention.attend (inputs m c) b h d := by
  rw [returned]
  exact join_heads _ b h d

end Cert.KernelIdeal.Value
-- ==== Proof.Reference.lean ====
/-
  What the reference computes: softmax attention over the whole cache, line by line, and so `Attention.attend` of its
  arguments at every index.
-/
module

public import proofs.«01_k».proof.Proof.Attention
public import proofs.«01_k».proof.Proof.Gen.ReferenceIdeal.Frame
public import Idealize.ShloMosaic.Lib.Pipeline.Value
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.ValueLayout

@[expose] public section

set_option maxRecDepth 16384

noncomputable section

open Idealize.ShloMosaic Idealize.ShloMosaic.TcCoe Idealize.SL.Sem
open Idealize.ShloMosaic.Pipeline (Dat)

namespace Cert.ReferenceIdeal.Value

open Cert.ReferenceIdeal Cert.ReferenceIdeal.Gen
open Attention (lane)

variable (m : (ℓ : Loc nD τ sig) → Buf (Elt Ideal) ℓ) (c : Dev nD)

/-- The reference's arguments at their natural coordinates. -/
def inputs : Attention.Inputs where
  query b h d := m ((c.tc : Thread nD τ).loc main_arg0) (ix3 b 0 (lane h d))
  queryRope b h r := m ((c.tc : Thread nD τ).loc main_arg1) (ix4 b 0 h r)
  code b k d := m ((c.tc : Thread nD τ).loc main_arg2) (ix3 b k d)
  scale b k := m ((c.tc : Thread nD τ).loc main_arg3) (ix2 b k)
  keyRope b k r := m ((c.tc : Thread nD τ).loc main_arg4) (ix3 b k r)

/-- The codes at the wider type: the same extended reals. -/
def widened : FVec Ideal S32x32768x512 .bf16 := fun i => m ((c.tc : Thread nD τ).loc main_arg2) i

theorem idx : ∀ t : Fin cfg0.N, win0_0.index t = ![0, 0, 0] ∧ win0_1.index t = ![0, 0, 0] :=
  (by decide +kernel : ∀ t : Fin grid0.N, win0_0.index t = ![0, 0, 0] ∧ win0_1.index t = ![0, 0, 0])

/-- What the widening call stores: its operand, widened. -/
theorem stored (x : Vec Ideal S32x32768x512 .fp8e4m3) : out0_1 x = k0_pay1 x := by
  have h0 : (![0, 0, 0] : Fin 3 → ℕ) = fun _ => 0 := by decide
  unfold out0_1 r0_0
  rw [View.canon_unit_zero h0, View.ld_unit_zero h0]

/-- The widening call leaves every code's value as it was. -/
theorem widen : (dats m 0 c).arrAt 1 cfg0.N = widened m c := by
  refine (dats m 0 c).arrAt_eq_of_covers 1 _ (by decide +kernel) fun t hf y => ?_
  blk_simp
  rw [after0_1]
  idx_vars y
  have e : ((View.whole main_v1).slice (win0_1.rect t)).emb (ix3 y0 y1 y2) = ix3 y0 y1 y2 := by
    blk_ext [idx t]
  rw [e]
  rw [stored]
  show iblk m c 0 t (ix3 y0 y1 y2) = m ((c.tc : Thread nD τ).loc main_arg2) (ix3 y0 y1 y2)
  blk_ext [iblk, V_main_arg2, idx t]

/-- The scores of every token, for every row and head. -/
def scores (q : FVec Ideal S32x1x64x512 .bf16) (qr : FVec Ideal S32x1x64x64 .bf16) (x : FVec Ideal S32x32768x512 .bf16)
    (s : FVec Ideal S32x32768 .f32) (kr : FVec Ideal S32x32768x64 .bf16) : FVec Ideal S32x1x64x32768 .f32 :=
  mulf (addf (mulf (Host.dotGeneral dot_S32x1x64x512_S32x32768x512_S32x1x64x32768_3_2_12_1_0_0 none q x)
        (broadcastInDim S32x1x64x32768 ![0, 1, 2, 3] bcast_S32x1x1x32768_S32x1x64x32768_0_1_2_3
          (broadcastInDim S32x1x1x32768 ![0, 3] bcast_S32x32768_S32x1x1x32768_0_3 s)))
      (Host.dotGeneral dot_S32x1x64x64_S32x32768x64_S32x1x64x32768_3_2_12_1_0_0 none qr kr))
    (broadcastInDim S32x1x64x32768 ![] bcast_S_S32x1x64x32768 (constant S_ .f32 0x3D93CD3A#32))

/-- The weights: the exponential of each score less the row's largest. -/
def weights (x : FVec Ideal S32x1x64x32768 .f32) : FVec Ideal S32x1x64x32768 .f32 :=
  Host.exp (subf x (broadcastInDim S32x1x64x32768 ![0, 1, 2, 3] bcast_S32x1x64x1_S32x1x64x32768_0_1_2_3
    (broadcastInDim S32x1x64x1 ![0, 1, 2] bcast_S32x1x64_S32x1x64x1_0_1_2
      (Host.reduce FloatOps.maximumf x (constant S_ .f32 0xFF800000#32) reducesTo_S32x1x64x32768_S32x1x64_d3 h_S_))))

/-- The weighted sum of the values over the sum of the weights. -/
def ratio (w : FVec Ideal S32x1x64x32768 .f32) (x : FVec Ideal S32x32768x512 .bf16) (s : FVec Ideal S32x32768 .f32) :
    FVec Ideal S32x1x64x512 .f32 :=
  Host.divf
    (Host.dotGeneral dot_S32x1x64x32768_S32x32768x512_S32x1x64x512_3_1_12_2_0_0 none
      (mulf w (broadcastInDim S32x1x64x32768 ![0, 1, 2, 3] bcast_S32x1x1x32768_S32x1x64x32768_0_1_2_3
        (broadcastInDim S32x1x1x32768 ![0, 3] bcast_S32x32768_S32x1x1x32768_0_3 s))) x)
    (broadcastInDim S32x1x64x512 ![0, 1, 2, 3] bcast_S32x1x64x1_S32x1x64x512_0_1_2_3
      (broadcastInDim S32x1x64x1 ![0, 1, 2] bcast_S32x1x64_S32x1x64x1_0_1_2
        (Host.reduceAdd w (constant S_ .f32 0x00000000#32) reducesTo_S32x1x64x32768_S32x1x64_d3 h_S_)))

/-- The split query. -/
def query : FVec Ideal S32x1x64x512 .bf16 :=
  shapeCast S32x1x64x512 (m ((c.tc : Thread nD τ).loc main_arg0) : FVec Ideal S32x1x32768 .bf16) shapeCasts_S32x1x32768_S32x1x64x512

/-- The ratio, at the reference's arguments. -/
def result : FVec Ideal S32x1x64x512 .f32 :=
  ratio (weights (scores (query m c) (m ((c.tc : Thread nD τ).loc main_arg1)) (widened m c)
      (m ((c.tc : Thread nD τ).loc main_arg3)) (m ((c.tc : Thread nD τ).loc main_arg4))))
    (widened m c) (m ((c.tc : Thread nD τ).loc main_arg3))

/-- A buffer as the lines after the widening call find it. -/
abbrev exit (b : Ref sig .tc) : Buf (Elt Ideal) ((c.tc : Thread nD τ).loc b) :=
  Pipeline.withArrays (cfgs 0).spec c (V0 m c) (fun w => (dats m 0 c).arrAt w (cfgs 0).N) (Proc.tc.devRef b)

theorem exit_v1 : exit m c main_v1 = widened m c :=
  (Pipeline.withArrays_arr spec0 launch0.win.arr_inj c (V0 m c) (fun w => (dats m 0 c).arrAt w cfg0.N) 1).trans (widen m c)
theorem exit_v0 : exit m c main_v0 = query m c := by
  refine (Pipeline.withArrays_of_ne _ c (V0 m c) _ main_v0 (by exact (by decide : ∀ w, Pipeline.arrRef spec0 w ≠ main_v0))).trans ?_
  show StableHlo.after hostOps0 _ _ = _
  after_results
  rfl
theorem exit_arg1 : exit m c main_arg1 = m ((c.tc : Thread nD τ).loc main_arg1) :=
  (Pipeline.withArrays_of_ne _ c (V0 m c) _ main_arg1 (by exact (by decide : ∀ w, Pipeline.arrRef spec0 w ≠ main_arg1))).trans
    (V_main_arg1 m c)
theorem exit_arg3 : exit m c main_arg3 = m ((c.tc : Thread nD τ).loc main_arg3) :=
  (Pipeline.withArrays_of_ne _ c (V0 m c) _ main_arg3 (by exact (by decide : ∀ w, Pipeline.arrRef spec0 w ≠ main_arg3))).trans
    (V_main_arg3 m c)
theorem exit_arg4 : exit m c main_arg4 = m ((c.tc : Thread nD τ).loc main_arg4) :=
  (Pipeline.withArrays_of_ne _ c (V0 m c) _ main_arg4 (by exact (by decide : ∀ w, Pipeline.arrRef spec0 w ≠ main_arg4))).trans
    (V_main_arg4 m c)

/-- The returned array is the ratio, its heads joined into one flat row and rounded. -/
theorem returned : Pipeline.afterTail₀ cfgs (dats m) 0 (V0 m) [hostOps1] c main_v23
    = (truncf .bf16 (shapeCast S32x1x32768 (result m c) shapeCasts_S32x1x64x512_S32x1x32768) bitsLt_bf16_f32 : FVec Ideal S32x1x32768 .bf16) := by
  unfold Pipeline.afterTail₀
  show StableHlo.after hostOps1 _ _ = _
  after_results
  unfold result
  rw [← exit_v1, ← exit_v0, ← exit_arg1 m c, ← exit_arg3 m c, ← exit_arg4 m c]
  rfl

/-- Splitting the flat query axis into heads and columns. -/
theorem split_query {α : Type} (x : S32x1x32768.Idx → α) (b : Fin 32) (h : Fin 64) (d : Fin 512) :
    shapeCast S32x1x64x512 x shapeCasts_S32x1x32768_S32x1x64x512 (ix4 b 0 h d) = x (ix3 b 0 (lane h d)) := by
  refine shapeCast_apply _ _ _ _ ?_
  rw [Shape.rowMajor_val_three, Shape.rowMajor_val_four]
  show (b.val * 1 + 0) * 32768 + (512 * h.val + d.val) = ((b.val * 1 + 0) * 64 + h.val) * 512 + d.val
  omega
/-- Joining the heads' columns into one flat row. -/
theorem join_heads {α : Type} (x : S32x1x64x512.Idx → α) (b : Fin 32) (h : Fin 64) (d : Fin 512) :
    shapeCast S32x1x32768 x shapeCasts_S32x1x64x512_S32x1x32768 (ix3 b 0 (lane h d)) = x (ix4 b 0 h d) := by
  refine shapeCast_apply _ _ _ _ ?_
  rw [Shape.rowMajor_val_three, Shape.rowMajor_val_four]
  show ((b.val * 1 + 0) * 64 + h.val) * 512 + d.val = (b.val * 1 + 0) * 32768 + (512 * h.val + d.val)
  omega

theorem scores_apply (q : FVec Ideal S32x1x64x512 .bf16) (qr : FVec Ideal S32x1x64x64 .bf16) (x : FVec Ideal S32x32768x512 .bf16)
    (s : FVec Ideal S32x32768 .f32) (kr : FVec Ideal S32x32768x64 .bf16) (b : Fin 32) (h : Fin 64) (k : Fin 32768) :
    scores q qr x s kr (ix4 b 0 h k)
      = ((∑ d : Fin 512, q (ix4 b 0 h d) * x (ix3 b k d)) * s (ix2 b k) + ∑ r : Fin 64, qr (ix4 b 0 h r) * kr (ix3 b k r))
        * Ideal.ofBits .f32 0x3D93CD3A#32 := by
  pointwise [scores]

theorem weights_apply (x : FVec Ideal S32x1x64x32768 .f32) (b : Fin 32) (h : Fin 64) (k : Fin 32768) :
    weights x (ix4 b 0 h k)
      = Ideal.exp (x (ix4 b 0 h k) - Finset.univ.fold max ⊥ fun j : Fin 32768 => x (ix4 b 0 h j)) := by
  rw [← Attention.neg_inf]
  pointwise [weights]

theorem ratio_apply (w : FVec Ideal S32x1x64x32768 .f32) (x : FVec Ideal S32x32768x512 .bf16) (s : FVec Ideal S32x32768 .f32)
    (b : Fin 32) (h : Fin 64) (d : Fin 512) :
    ratio w x s (ix4 b 0 h d)
      = Ideal.div (∑ k : Fin 32768, w (ix4 b 0 h k) * s (ix2 b k) * x (ix3 b k d)) (∑ k : Fin 32768, w (ix4 b 0 h k)) := by
  pointwise [ratio]

/-- Rounding changes no extended real. -/
theorem rounded_apply (x : FVec Ideal S32x1x32768 .f32) (i : S32x1x32768.Idx) :
    (truncf .bf16 x bitsLt_bf16_f32 : FVec Ideal S32x1x32768 .bf16) i = x i := rfl

/-- The score of token `k`, at the reference's arguments. -/
theorem score_eq (b : Fin 32) (h : Fin 64) (k : Fin 32768) :
    scores (query m c) (m ((c.tc : Thread nD τ).loc main_arg1)) (widened m c)
      (m ((c.tc : Thread nD τ).loc main_arg3)) (m ((c.tc : Thread nD τ).loc main_arg4)) (ix4 b 0 h k)
      = Attention.score (inputs m c) b h k.val := by
  rw [scores_apply]
  unfold Attention.score
  rw [Attention.pos_val]
  have e : ∀ d : Fin 512, query m c (ix4 b 0 h d) = (inputs m c).query b h d := fun d => split_query _ b h d
  simp only [e]
  rfl

/-- The weight of token `k`, at the reference's arguments. -/
theorem weight_eq (b : Fin 32) (h : Fin 64) (k : Fin 32768) :
    weights (scores (query m c) (m ((c.tc : Thread nD τ).loc main_arg1)) (widened m c)
      (m ((c.tc : Thread nD τ).loc main_arg3)) (m ((c.tc : Thread nD τ).loc main_arg4))) (ix4 b 0 h k)
      = Ideal.exp (Attention.score (inputs m c) b h k.val - Softmax.top (Attention.score (inputs m c) b h) 32768) := by
  rw [weights_apply, Softmax.top_eq (Attention.score (inputs m c) b h) 32768 _ fun j => score_eq m c b h j, score_eq]

/-- The returned array at head `h`'s column `d` of row `b` is the attention there. -/
theorem returned_apply (b : Fin 32) (h : Fin 64) (d : Fin 512) :
    (Pipeline.afterTail₀ cfgs (dats m) 0 (V0 m) [hostOps1] c main_v23 : FVec Ideal S32x1x32768 .bf16) (ix3 b 0 (lane h d))
      = Attention.attend (inputs m c) b h d := by
  rw [returned, rounded_apply, join_heads]
  unfold result
  rw [ratio_apply]
  unfold Attention.attend
  rw [Softmax.mass_eq (Attention.score (inputs m c) b h) (Attention.value (inputs m c) b d) 32768 _ fun k => by
      rw [weight_eq, mul_assoc]
      unfold Attention.value
      rw [Attention.pos_val]
      rfl,
    Softmax.mass_eq (Attention.score (inputs m c) b h) (fun _ => 1) 32768 _ fun k => by
      rw [weight_eq, mul_one]]

end Cert.ReferenceIdeal.Value
-- ==== Proof.Equation.lean ====
/-
  The equation: from equal arguments, the idealized kernel and the reference return the same array.
-/
module

public import proofs.«01_k».proof.Proof.Array
public import proofs.«01_k».proof.Proof.Reference

@[expose] public section

set_option maxRecDepth 16384

noncomputable section

open Idealize.ShloMosaic Idealize.ShloMosaic.TcCoe Idealize.SL.Sem

namespace Cert.Proof

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The five arguments hold the same contents in the two memories. -/
def SameArguments (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m'}

/-- Equal arguments are equal inputs to the formula. -/
theorem inputs_eq (c : Dev Cert.KernelIdeal.nD) (h : SameArguments m m' c) :
    Cert.ReferenceIdeal.Value.inputs m' c = Cert.KernelIdeal.Value.inputs m c := by
  obtain ⟨h0, h1, h2, h3, h4⟩ := h
  unfold Cert.ReferenceIdeal.Value.inputs Cert.KernelIdeal.Value.inputs
  congr 1
  · funext b k d; exact congrFun h0 _
  · funext b k d; exact congrFun h1 _
  · funext b k d; exact congrFun h2 _
  · funext b k; exact congrFun h3 _
  · funext b k d; exact congrFun h4 _

/-- The two arrays agree at every index. -/
theorem arrays_eq (x y : FVec Ideal Cert.KernelIdeal.S32x1x32768 .bf16)
    (h : ∀ (b : Fin 32) (k : Fin 64) (d : Fin 512), x (ix3 b 0 (Attention.lane k d)) = y (ix3 b 0 (Attention.lane k d))) : x = y := by
  funext i
  idx_vars i
  obtain rfl : i1 = 0 := Subsingleton.elim _ _
  obtain ⟨k, d, rfl⟩ := Attention.lane_surj i2
  exact h i0 k d

/-- From equal arguments, the two programs return the same array. -/
theorem returned_eq (c : Dev Cert.KernelIdeal.nD) (h : SameArguments m m' c) :
    (Pipeline.afterTail₀ Cert.ReferenceIdeal.cfgs (Cert.ReferenceIdeal.Gen.dats m') 0 (Cert.ReferenceIdeal.Gen.V0 m')
        [Cert.ReferenceIdeal.Gen.hostOps1] c Cert.ReferenceIdeal.main_v23 : FVec Ideal Cert.KernelIdeal.S32x1x32768 .bf16)
      = Pipeline.afterTail₀ Cert.KernelIdeal.cfgs (Cert.KernelIdeal.Gen.dats m) 0 (Cert.KernelIdeal.Gen.V0 m)
        [Cert.KernelIdeal.Gen.hostOps1] c Cert.KernelIdeal.main_v4 := by
  refine arrays_eq _ _ fun b k d => ?_
  refine (Cert.ReferenceIdeal.Value.returned_apply m' c b k d).trans ?_
  rw [inputs_eq c h]
  exact (Cert.KernelIdeal.Value.returned_apply m c b k d).symm

end Cert.Proof

end
-- ==== Proof.lean ====
/-
  The certificate: the three frames, which the generated modules prove; that the idealized kernel is the kernel; and that
  over the extended reals the kernel and the reference compute the same array (`Proof/Equation.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Equation
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem

/-- The algebraic claim: over the extended reals, from equal arguments, the idealized kernel and the reference both run to
    the end, leave their arguments as they were, and return the same array. -/
theorem algebraic : Cert.algebraic_KernelIdeal_ReferenceIdeal (hKernelIdeal := Cert.KernelIdeal.Gen.facts)
    (hReferenceIdeal := Cert.ReferenceIdeal.Gen.facts) := by
  pair_intro
  · run_from Cert.KernelIdeal.Gen.run_main m g
    · exact Cert.KernelIdeal.Gen.W_main_arg0 m _ c
    · exact Cert.KernelIdeal.Gen.W_main_arg1 m _ c
    · exact Cert.KernelIdeal.Gen.W_main_arg4 m _ c
  · run_from Cert.ReferenceIdeal.Gen.run_main m' g'
    · exact returned_eq c (hagree c)
    · exact (Cert.ReferenceIdeal.Gen.W_main_arg0 m' _ c).trans (hagree c).1
    · exact (Cert.ReferenceIdeal.Gen.W_main_arg1 m' _ c).trans (hagree c).2.1
    · exact (Cert.ReferenceIdeal.Gen.W_main_arg3 m' _ c).trans (hagree c).2.2.2.1
    · exact (Cert.ReferenceIdeal.Gen.W_main_arg4 m' _ c).trans (hagree c).2.2.2.2

/-- All five claims. Each program, from any memory with every semaphore at zero, runs to the end without fault, leaves its
    arguments as they were and its semaphores at zero; the idealized kernel is the kernel; `algebraic` is the equation. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Gen.frame m g, trivial, algebraic⟩

end Cert.Proof

end
